-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x64x4096 : Shape := ⟨4, ![8, 32, 64, 4096]⟩
abbrev S16384x4096 : Shape := ⟨2, ![16384, 4096]⟩
abbrev S16384x2047 : Shape := ⟨2, ![16384, 2047]⟩
abbrev S256x4096 : Shape := ⟨2, ![256, 4096]⟩
abbrev S256x2047 : Shape := ⟨2, ![256, 2047]⟩
abbrev S256x128 : Shape := ⟨2, ![256, 128]⟩
abbrev S256x128x1 : Shape := ⟨3, ![256, 128, 1]⟩
abbrev S256x127 : Shape := ⟨2, ![256, 127]⟩
abbrev S8x32x64x2047 : Shape := ⟨4, ![8, 32, 64, 2047]⟩

abbrev nBuf : Space → Nat
  | .hbm => 4
  | .vmem => 4
  | .smem => 0
  | _ => 0

abbrev bufTy : (tb : Table) → Fin (tcTables nBuf tb) → BufTy
  | .hbm, ⟨0, _⟩ => ⟨S8x32x64x4096, .f32⟩
  | .hbm, ⟨1, _⟩ => ⟨S16384x4096, .f32⟩
  | .hbm, ⟨2, _⟩ => ⟨S16384x2047, .f32⟩
  | .hbm, ⟨3, _⟩ => ⟨S8x32x64x2047, .f32⟩
  | .local _ .vmem, ⟨0, _⟩ => ⟨S256x4096, .f32⟩
  | .local _ .vmem, ⟨1, _⟩ => ⟨S256x4096, .f32⟩
  | .local _ .vmem, ⟨2, _⟩ => ⟨S256x2047, .f32⟩
  | .local _ .vmem, ⟨3, _⟩ => ⟨S256x2047, .f32⟩
  | _, _ => ⟨S8x32x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2047 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x32x64x4096 : Shape := ⟨4, ![8, 32, 64, 4096]⟩
abbrev S2047 : Shape := ⟨1, ![2047]⟩
abbrev S2047x1 : Shape := ⟨2, ![2047, 1]⟩
abbrev S_ : Shape := ⟨0, ![]⟩
abbrev S4 : Shape := ⟨1, ![4]⟩
abbrev S1x4 : Shape := ⟨2, ![1, 4]⟩
abbrev S2047x4 : Shape := ⟨2, ![2047, 4]⟩
abbrev S2047x4x1 : Shape := ⟨3, ![2047, 4, 1]⟩
abbrev S8x32x64x2047x4 : Shape := ⟨5, ![8, 32, 64, 2047, 4]⟩
abbrev S8x32x64x2047 : Shape := ⟨4, ![8, 32, 64, 2047]⟩
abbrev S3 : Shape := ⟨1, ![3]⟩
abbrev S8x32x64x2047x1 : Shape := ⟨5, ![8, 32, 64, 2047, 1]⟩
abbrev S1x1x1x1x3 : Shape := ⟨5, ![1, 1, 1, 1, 3]⟩
abbrev S8x32x64x2047x3 : Shape := ⟨5, ![8, 32, 64, 2047, 3]⟩
abbrev S8x32x64x2047x3x1 : Shape := ⟨6, ![8, 32, 64, 2047, 3, 1]⟩
abbrev S1 : Shape := ⟨1, ![1]⟩
abbrev S1x1x1x1x1x1 : Shape := ⟨6, ![1, 1, 1, 1, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S8x32x64x4096, .f32⟩
  | .hbm, ⟨1, _⟩ => ⟨S2047, .i32⟩
  | .hbm, ⟨2, _⟩ => ⟨S2047x1, .i32⟩
  | .hbm, ⟨3, _⟩ => ⟨S_, .i32⟩
  | .hbm, ⟨4, _⟩ => ⟨S2047x1, .i32⟩
  | .hbm, ⟨5, _⟩ => ⟨S2047x1, .i32⟩
  | .hbm, ⟨6, _⟩ => ⟨S4, .i32⟩
  | .hbm, ⟨7, _⟩ => ⟨S1x4, .i32⟩
  | .hbm, ⟨8, _⟩ => ⟨S2047x4, .i32⟩
  | .hbm, ⟨9, _⟩ => ⟨S2047x4, .i32⟩
  | .hbm, ⟨10, _⟩ => ⟨S2047x4, .i32⟩
  | .hbm, ⟨11, _⟩ => ⟨S_, .i32⟩
  | .hbm, ⟨12, _⟩ => ⟨S2047x4, .i32⟩
  | .hbm, ⟨13, _⟩ => ⟨S2047x4, .i1⟩
  | .hbm, ⟨14, _⟩ => ⟨S_, .i32⟩
  | .hbm, ⟨15, _⟩ => ⟨S2047x4, .i32⟩
  | .hbm, ⟨16, _⟩ => ⟨S2047x4, .i32⟩
  | .hbm, ⟨17, _⟩ => ⟨S2047x4, .i32⟩
  | .hbm, ⟨18, _⟩ => ⟨S2047x4x1, .i32⟩
  | .hbm, ⟨19, _⟩ => ⟨S8x32x64x2047x4, .f32⟩
  | .hbm, ⟨20, _⟩ => ⟨S8x32x64x2047x4, .i32⟩
  | .hbm, ⟨21, _⟩ => ⟨S_, .f32⟩
  | .hbm, ⟨22, _⟩ => ⟨S_, .i32⟩
  | .hbm, ⟨23, _⟩ => ⟨S8x32x64x2047, .f32⟩
  | .hbm, ⟨24, _⟩ => ⟨S8x32x64x2047, .i32⟩
  | .hbm, ⟨25, _⟩ => ⟨S_, .i32⟩
  | .hbm, ⟨26, _⟩ => ⟨S8x32x64x2047, .i32⟩
  | .hbm, ⟨27, _⟩ => ⟨S8x32x64x2047, .i32⟩
  | .hbm, ⟨28, _⟩ => ⟨S_, .i32⟩
  | .hbm, ⟨29, _⟩ => ⟨S8x32x64x2047, .i32⟩
  | .hbm, ⟨30, _⟩ => ⟨S8x32x64x2047, .i32⟩
  | .hbm, ⟨31, _⟩ => ⟨S8x32x64x2047, .i32⟩
  | .hbm, ⟨32, _⟩ => ⟨S3, .i32⟩
  | .hbm, ⟨33, _⟩ => ⟨S_, .i32⟩
  | .hbm, ⟨34, _⟩ => ⟨S3, .i32⟩
  | .hbm, ⟨35, _⟩ => ⟨S3, .i32⟩
  | .hbm, ⟨36, _⟩ => ⟨S3, .i32⟩
  | .hbm, ⟨37, _⟩ => ⟨S3, .f32⟩
  | .hbm, ⟨38, _⟩ => ⟨S_, .i32⟩
  | .hbm, ⟨39, _⟩ => ⟨S8x32x64x2047, .i32⟩
  | .hbm, ⟨40, _⟩ => ⟨S8x32x64x2047, .i32⟩
  | .hbm, ⟨41, _⟩ => ⟨S8x32x64x2047, .f32⟩
  | .hbm, ⟨42, _⟩ => ⟨S_, .f32⟩
  | .hbm, ⟨43, _⟩ => ⟨S8x32x64x2047, .f32⟩
  | .hbm, ⟨44, _⟩ => ⟨S8x32x64x2047, .f32⟩
  | .hbm, ⟨45, _⟩ => ⟨S8x32x64x2047x1, .f32⟩
  | .hbm, ⟨46, _⟩ => ⟨S1x1x1x1x3, .f32⟩
  | .hbm, ⟨47, _⟩ => ⟨S8x32x64x2047x3, .f32⟩
  | .hbm, ⟨48, _⟩ => ⟨S8x32x64x2047x3, .f32⟩
  | .hbm, ⟨49, _⟩ => ⟨S8x32x64x2047x3, .f32⟩
  | .hbm, ⟨50, _⟩ => ⟨S_, .f32⟩
  | .hbm, ⟨51, _⟩ => ⟨S8x32x64x2047x3, .f32⟩
  | .hbm, ⟨52, _⟩ => ⟨S8x32x64x2047x3, .f32⟩
  | .hbm, ⟨53, _⟩ => ⟨S8x32x64x2047x3, .f32⟩
  | .hbm, ⟨54, _⟩ => ⟨S8x32x64x2047x3, .f32⟩
  | .hbm, ⟨55, _⟩ => ⟨S3, .i32⟩
  | .hbm, ⟨56, _⟩ => ⟨S8x32x64x2047x1, .i32⟩
  | .hbm, ⟨57, _⟩ => ⟨S1x1x1x1x3, .i32⟩
  | .hbm, ⟨58, _⟩ => ⟨S8x32x64x2047x3, .i32⟩
  | .hbm, ⟨59, _⟩ => ⟨S8x32x64x2047x3, .i32⟩
  | .hbm, ⟨60, _⟩ => ⟨S8x32x64x2047x3, .i1⟩
  | .hbm, ⟨61, _⟩ => ⟨S8x32x64x2047x1, .i32⟩
  | .hbm, ⟨62, _⟩ => ⟨S1x1x1x1x3, .i32⟩
  | .hbm, ⟨63, _⟩ => ⟨S8x32x64x2047x3, .i32⟩
  | .hbm, ⟨64, _⟩ => ⟨S8x32x64x2047x3, .i32⟩
  | .hbm, ⟨65, _⟩ => ⟨S8x32x64x2047x3, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S8x32x64x2047x3, .i32⟩
  | .hbm, ⟨70, _⟩ => ⟨S8x32x64x2047x3, .i32⟩
  | .hbm, ⟨71, _⟩ => ⟨S_, .i32⟩
  | .hbm, ⟨72, _⟩ => ⟨S8x32x64x2047x3, .i32⟩
  | .hbm, ⟨73, _⟩ => ⟨S8x32x64x2047x3, .i32⟩
  | .hbm, ⟨74, _⟩ => ⟨S_, .i32⟩
  | .hbm, ⟨75, _⟩ => ⟨S8x32x64x2047x3, .i32⟩
  | .hbm, ⟨76, _⟩ => ⟨S8x32x64x2047x3, .i1⟩
  | .hbm, ⟨77, _⟩ => ⟨S_, .i32⟩
  | .hbm, ⟨78, _⟩ => ⟨S8x32x64x2047x3, .i32⟩
  | .hbm, ⟨79, _⟩ => ⟨S8x32x64x2047x3, .i32⟩
  | .hbm, ⟨80, _⟩ => ⟨S8x32x64x2047x3, .i32⟩
  | .hbm, ⟨81, _⟩ => ⟨S8x32x64x2047x3x1, .i32⟩
  | .hbm, ⟨82, _⟩ => ⟨S1, .i32⟩
  | .hbm, ⟨83, _⟩ => ⟨S_, .i32⟩
  | .hbm, ⟨84, _⟩ => ⟨S8x32x64x2047x3x1, .i32⟩
  | .hbm, ⟨85, _⟩ => ⟨S8x32x64x2047x3x1, .i1⟩
  | .hbm, ⟨86, _⟩ => ⟨S1x1x1x1x1x1, .i32⟩
  | .hbm, ⟨87, _⟩ => ⟨S8x32x64x2047x3x1, .i32⟩
  | .hbm, ⟨88, _⟩ => ⟨S8x32x64x2047x3x1, .i1⟩
  | .hbm, ⟨89, _⟩ => ⟨S8x32x64x2047x3x1, .i1⟩
  | .hbm, ⟨90, _⟩ => ⟨S_, .i1⟩
  | .hbm, ⟨91, _⟩ => ⟨S8x32x64x2047x3, .i1⟩
  | .hbm, ⟨92, _⟩ => ⟨S8x32x64x2047x3, .f32⟩
  | .hbm, ⟨93, _⟩ => ⟨S_, .f32⟩
  | .hbm, ⟨94, _⟩ => ⟨S8x32x64x2047x3, .f32⟩
  | .hbm, ⟨95, _⟩ => ⟨S8x32x64x2047x3, .f32⟩
  | .hbm, ⟨96, _⟩ => ⟨S8x32x64x2047x3, .f32⟩
  | .hbm, ⟨97, _⟩ => ⟨S_, .f32⟩
  | .hbm, ⟨98, _⟩ => ⟨S8x32x64x2047x3, .f32⟩
  | .hbm, ⟨99, _⟩ => ⟨S8x32x64x2047x3, .f32⟩
  | .hbm, ⟨100, _⟩ => ⟨S_, .f32⟩
  | .hbm, ⟨101, _⟩ => ⟨S8x32x64x2047, .f32⟩
  | _, _ => ⟨S8x32x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_7 : Ref sig .tc := ⟨.hbm, 66, rfl⟩
abbrev main_c_8 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v52 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_cst : Ref sig .tc := ⟨.hbm, 93, rfl⟩
abbrev main_call2_v14 : Ref sig .tc := ⟨.hbm, 94, rfl⟩
abbrev main_v53 : Ref sig .tc := ⟨.hbm, 95, rfl⟩
abbrev main_v54 : Ref sig .tc := ⟨.hbm, 96, rfl⟩
abbrev main_cst_9 : Ref sig .tc := ⟨.hbm, 97, rfl⟩
abbrev main_call3_v0 : Ref sig .tc := ⟨.hbm, 98, rfl⟩
abbrev main_v55 : Ref sig .tc := ⟨.hbm, 99, rfl⟩
abbrev main_cst_10 : Ref sig .tc := ⟨.hbm, 100, rfl⟩
abbrev main_v56 : Ref sig .tc := ⟨.hbm, 101, rfl⟩

abbrev nD : Nat := 1
abbrev τ : Topo := Topo.v7x

variable {F : FTy → Type} [FloatOps F]
-- ==== Proof.RefTerm.lean ====
/- The reference program's result as one pure function of its argument, written in named stages: the windows, the
   position of each window's first maximum, the triangular weights, the gathered neighbours and the weighted sum. -/
module

public import proofs.«01_k».proof.Proof.Gen.ReferenceIdeal
public import Idealize.ShloMosaic.Lib.Claim
public import Idealize.ShloMosaic.PureOps.Ideal

@[expose] public section

set_option maxRecDepth 16384

noncomputable section

namespace Cert.Ref

open Idealize.ShloMosaic Cert.ReferenceIdeal Cert.ReferenceIdeal.Facts₀

variable [Cert.ReferenceIdeal.Facts]

/-- The window positions `2 * o + p` before a negative one would be wrapped. -/
def rawIdx : IVec S2047x4 32 :=
  addi (broadcastInDim S2047x4 ![0, 1] bcast_S2047x1_S2047x4_0_1
      (muli (broadcastInDim S2047x1 ![0] bcast_S2047_S2047x1_0 (iotaInDim S2047 32 0))
        (broadcastInDim S2047x1 ![] bcast_S_S2047x1 (constantI S_ 32 2#32))))
    (broadcastInDim S2047x4 ![0, 1] bcast_S1x4_S2047x4_0_1
      (broadcastInDim S1x4 ![1] bcast_S4_S1x4_1 (iotaInDim S4 32 0)))

/-- The window positions as the gather takes them. -/
def winIdx : IVec S2047x4x1 32 :=
  broadcastInDim S2047x4x1 ![0, 1] bcast_S2047x4_S2047x4x1_0_1
    (select (cmpi .slt rawIdx (broadcastInDim S2047x4 ![] bcast_S_S2047x4 (constantI S_ 32 0#32)))
      (addi rawIdx (broadcastInDim S2047x4 ![] bcast_S_S2047x4 (constantI S_ 32 4096#32))) rawIdx)

/-- The windows: entry `(b, c, h, o, p)` is to be the argument at `(b, c, h, 2 * o + p)`. -/
def win (x : FVec Ideal S8x32x64x4096 .f32) : FVec Ideal S8x32x64x2047x4 .f32 :=
  Host.gather gather_S8x32x64x4096_S2047x4x1_S8x32x64x2047x4_012_3_n_n_3_2_832641 x winIdx

/-- The position of each window's first maximum. -/
def argPos (w : FVec Ideal S8x32x64x2047x4 .f32) : IVec S8x32x64x2047 32 := fun j =>
  (Host.argReduce reducer_argmax_f32_i32 w (iotaInDim S8x32x64x2047x4 32 4) (constant (F := Ideal) S_ .f32 0xFF800000#32)
    (constantI S_ 32 0#32) reducesTo_S8x32x64x2047x4_S8x32x64x2047_d4 h_S_ j).2

/-- How many neighbours on each side take part: one, or none at a window's ends. -/
def eff (p : IVec S8x32x64x2047 32) : IVec S8x32x64x2047 32 :=
  minsi (minsi (broadcastInDim S8x32x64x2047 ![] bcast_S_S8x32x64x2047 (constantI S_ 32 1#32)) p)
    (subi (broadcastInDim S8x32x64x2047 ![] bcast_S_S8x32x64x2047 (constantI S_ 32 3#32)) p)

/-- The offsets `-1, 0, 1`. -/
def offs : IVec S3 32 :=
  addi (broadcastInDim S3 ![] bcast_S_S3 (constantI S_ 32 4294967295#32)) (iotaInDim S3 32 0)

/-- The reciprocal of one more than the number of neighbours. -/
def recip (e : IVec S8x32x64x2047 32) : FVec Ideal S8x32x64x2047x1 .f32 :=
  broadcastInDim S8x32x64x2047x1 ![0, 1, 2, 3] bcast_S8x32x64x2047_S8x32x64x2047x1_0_1_2_3
    (Host.divf (broadcastInDim S8x32x64x2047 ![] bcast_S_S8x32x64x2047 (constant (F := Ideal) S_ .f32 0x3F800000#32))
      (sitofp .f32 (addi e (broadcastInDim S8x32x64x2047 ![] bcast_S_S8x32x64x2047 (constantI S_ 32 1#32)))))

/-- The triangular weights. -/
def weight (k : FVec Ideal S8x32x64x2047x1 .f32) : FVec Ideal S8x32x64x2047x3 .f32 :=
  mulf
    (subf (broadcastInDim S8x32x64x2047x3 ![] bcast_S_S8x32x64x2047x3 (constant (F := Ideal) S_ .f32 0x3F800000#32))
      (mulf
        (broadcastInDim S8x32x64x2047x3 ![0, 1, 2, 3, 4] bcast_S1x1x1x1x3_S8x32x64x2047x3_0_1_2_3_4
          (broadcastInDim S1x1x1x1x3 ![4] bcast_S3_S1x1x1x1x3_4 (sitofp (F := Ideal) .f32 (absi offs))))
        (broadcastInDim S8x32x64x2047x3 ![0, 1, 2, 3, 4] bcast_S8x32x64x2047x1_S8x32x64x2047x3_0_1_2_3_4 k)))
    (broadcastInDim S8x32x64x2047x3 ![0, 1, 2, 3, 4] bcast_S8x32x64x2047x1_S8x32x64x2047x3_0_1_2_3_4 k)

/-- Which offsets take part. -/
def mask (e : IVec S8x32x64x2047 32) : IVec S8x32x64x2047x3 1 :=
  cmpi .sle
    (broadcastInDim S8x32x64x2047x3 ![0, 1, 2, 3, 4] bcast_S1x1x1x1x3_S8x32x64x2047x3_0_1_2_3_4
      (broadcastInDim S1x1x1x1x3 ![4] bcast_S3_S1x1x1x1x3_4 (absi offs)))
    (broadcastInDim S8x32x64x2047x3 ![0, 1, 2, 3, 4] bcast_S8x32x64x2047x1_S8x32x64x2047x3_0_1_2_3_4
      (broadcastInDim S8x32x64x2047x1 ![0, 1, 2, 3] bcast_S8x32x64x2047_S8x32x64x2047x1_0_1_2_3 e))

/-- The neighbours' positions, clipped to the window. -/
def pos (p : IVec S8x32x64x2047 32) : IVec S8x32x64x2047x3 32 :=
  minsi (broadcastInDim S8x32x64x2047x3 ![] bcast_S_S8x32x64x2047x3 (constantI S_ 32 3#32))
    (maxsi (broadcastInDim S8x32x64x2047x3 ![] bcast_S_S8x32x64x2047x3 (constantI S_ 32 0#32))
      (addi
        (broadcastInDim S8x32x64x2047x3 ![0, 1, 2, 3, 4] bcast_S8x32x64x2047x1_S8x32x64x2047x3_0_1_2_3_4
          (broadcastInDim S8x32x64x2047x1 ![0, 1, 2, 3] bcast_S8x32x64x2047_S8x32x64x2047x1_0_1_2_3 p))
        (broadcastInDim S8x32x64x2047x3 ![0, 1, 2, 3, 4] bcast_S1x1x1x1x3_S8x32x64x2047x3_0_1_2_3_4
          (broadcastInDim S1x1x1x1x3 ![4] bcast_S3_S1x1x1x1x3_4 offs))))

/-- The neighbours' positions as the second gather takes them, a negative one wrapped. -/
def takeIdx (q : IVec S8x32x64x2047x3 32) : IVec S8x32x64x2047x3x1 32 :=
  shapeCast S8x32x64x2047x3x1
    (select (cmpi .slt q (broadcastInDim S8x32x64x2047x3 ![] bcast_S_S8x32x64x2047x3 (constantI S_ 32 0#32)))
      (addi q (broadcastInDim S8x32x64x2047x3 ![] bcast_S_S8x32x64x2047x3 (constantI S_ 32 4#32))) q)
    shapeCasts_S8x32x64x2047x3_S8x32x64x2047x3x1

/-- Which of them lie in the window (all do). -/
def inRange (i : IVec S8x32x64x2047x3x1 32) : IVec S8x32x64x2047x3 1 :=
  Host.reduce IntOp.andi
    (andi
      (cmpi .sge i (broadcastInDim S8x32x64x2047x3x1 ![] bcast_S_S8x32x64x2047x3x1 (constantI S_ 32 0#32)))
      (cmpi .sle i (broadcastInDim S8x32x64x2047x3x1 ![0, 1, 2, 3, 4, 5] bcast_S1x1x1x1x1x1_S8x32x64x2047x3x1_0_1_2_3_4_5
        (broadcastInDim S1x1x1x1x1x1 ![5] bcast_S1_S1x1x1x1x1x1_5 (constantI S1 32 3#32)))))
    (constantI S_ 1 1#1) reducesTo_S8x32x64x2047x3x1_S8x32x64x2047x3_d5 h_S_

/-- The neighbours' values. -/
def vals (w : FVec Ideal S8x32x64x2047x4 .f32) (i : IVec S8x32x64x2047x3x1 32) : FVec Ideal S8x32x64x2047x3 .f32 :=
  select (inRange i)
    (Host.gather gather_S8x32x64x2047x4_S8x32x64x2047x3x1_S8x32x64x2047x3_n_4_0123_0123_4_5_11111 w i)
    (broadcastInDim S8x32x64x2047x3 ![] bcast_S_S8x32x64x2047x3 (constant (F := Ideal) S_ .f32 0x7FC00000#32))

/-- The weighted sum over the windows `w`, the first maximum's position `p` given. -/
def pooled (w : FVec Ideal S8x32x64x2047x4 .f32) (p : IVec S8x32x64x2047 32) : FVec Ideal S8x32x64x2047 .f32 :=
  Host.reduceAdd
    (select (mask (eff p)) (mulf (weight (recip (eff p))) (vals w (takeIdx (pos p))))
      (broadcastInDim S8x32x64x2047x3 ![] bcast_S_S8x32x64x2047x3 (constant (F := Ideal) S_ .f32 0x00000000#32)))
    (constant (F := Ideal) S_ .f32 0x00000000#32) reducesTo_S8x32x64x2047x3_S8x32x64x2047_d4 h_S_

/-- The reference's result. -/
def result (x : FVec Ideal S8x32x64x4096 .f32) : FVec Ideal S8x32x64x2047 .f32 :=
  pooled (win x) (argPos (win x))

end Cert.Ref

end
-- ==== Proof.RefRun.lean ====
/- The reference program's run: it ends with its result array at `Ref.result` of its argument. -/
module

public import proofs.«01_k».proof.Proof.RefTerm
public import Idealize.ShloMosaic.Lib.Tactic.CleanTypes

@[expose] public section

set_option maxRecDepth 16384

noncomputable section

namespace Cert.Ref

open Idealize.ShloMosaic Idealize.ShloMosaic.TcCoe Idealize.SL.Sem

set_option maxHeartbeats 4000000 in
/-- The reference terminates, with its result array at `result` of its argument and its argument unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v56)
            = result (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) := by
  hlo_run
  simp only [StableHlo.TRef.ofBuf_toBuf]
  have h15 : ∀ x, (StableHlo.TRef.of Cert.ReferenceIdeal.main_v15 : StableHlo.TRef Cert.ReferenceIdeal.sig ⟨Cert.ReferenceIdeal.S8x32x64x2047x4, .f32⟩).ofBuf (Val := Elt Ideal) x = x := fun _ => rfl
  have hv16 : ∀ x, (StableHlo.TRef.of Cert.ReferenceIdeal.main_v16 : StableHlo.TRef Cert.ReferenceIdeal.sig ⟨Cert.ReferenceIdeal.S8x32x64x2047, .i32⟩).toBuf (Val := Elt Ideal) x = x := fun _ => rfl
  have hv51 : ∀ x, (StableHlo.TRef.of Cert.ReferenceIdeal.main_v51 : StableHlo.TRef Cert.ReferenceIdeal.sig ⟨Cert.ReferenceIdeal.S8x32x64x2047x3, .i32⟩).ofBuf (Val := Elt Ideal) x = x := fun _ => rfl
  have hc_7 : ∀ x, (StableHlo.TRef.of Cert.ReferenceIdeal.main_c_7 : StableHlo.TRef Cert.ReferenceIdeal.sig ⟨Cert.ReferenceIdeal.S_, .i32⟩).ofBuf (Val := Elt Ideal) x = x := fun _ => rfl
  have hc_8 : ∀ x, (StableHlo.TRef.of Cert.ReferenceIdeal.main_c_8 : StableHlo.TRef Cert.ReferenceIdeal.sig ⟨Cert.ReferenceIdeal.S_, .i32⟩).ofBuf (Val := Elt Ideal) x = x := fun _ => rfl
  have hv53 : ∀ x, (StableHlo.TRef.of Cert.ReferenceIdeal.main_v53 : StableHlo.TRef Cert.ReferenceIdeal.sig ⟨Cert.ReferenceIdeal.S8x32x64x2047x3, .f32⟩).toBuf (Val := Elt Ideal) x = x := fun _ => rfl
  have hv46 : ∀ x, (StableHlo.TRef.of Cert.ReferenceIdeal.main_v46 : StableHlo.TRef Cert.ReferenceIdeal.sig ⟨Cert.ReferenceIdeal.S8x32x64x2047x3, .i1⟩).ofBuf (Val := Elt Ideal) x = x := fun _ => rfl
  have hv54 : ∀ x, (StableHlo.TRef.of Cert.ReferenceIdeal.main_v54 : StableHlo.TRef Cert.ReferenceIdeal.sig ⟨Cert.ReferenceIdeal.S8x32x64x2047x3, .f32⟩).ofBuf (Val := Elt Ideal) x = x := fun _ => rfl
  have hcst_9 : ∀ x, (StableHlo.TRef.of Cert.ReferenceIdeal.main_cst_9 : StableHlo.TRef Cert.ReferenceIdeal.sig ⟨Cert.ReferenceIdeal.S_, .f32⟩).ofBuf (Val := Elt Ideal) x = x := fun _ => rfl
  have hv55 : ∀ x, (StableHlo.TRef.of Cert.ReferenceIdeal.main_v55 : StableHlo.TRef Cert.ReferenceIdeal.sig ⟨Cert.ReferenceIdeal.S8x32x64x2047x3, .f32⟩).toBuf (Val := Elt Ideal) x = x := fun _ => rfl
  simp only [h15, hv16, hv51, hc_7, hc_8, hv53, hv46, hv54, hcst_9, hv55]
  clean_types
  rfl

end Cert.Ref

end
-- ==== Proof.Tiles.lean ====
/- The kernel's stores, tile by tile: sixteen tiles of output columns, each one function of four blocks of 128 input
   columns (the last tile of two). -/
module

public import proofs.«01_k».proof.Proof.Gen.KernelIdeal.Frame

@[expose] public section

set_option maxRecDepth 16384

noncomputable section

namespace Cert.Tiles

open Idealize.ShloMosaic Cert.KernelIdeal Cert.KernelIdeal.Gen

variable {F : FTy → Type} [FloatOps F]

/-- The tile's entries at the even places `2 * l`, of the input's two blocks. -/
def even (a b : Vec F S256x128 .f32) : FVec F S256x128 .f32 := k0_pay12 k0_pay3 k0_pay4 (k0_pay6 a) b

/-- Its entries at the odd places `2 * l + 1`. -/
def odd (a b : Vec F S256x128 .f32) : FVec F S256x128 .f32 := k0_pay16 k0_pay3 k0_pay4 (k0_pay6 a) b

/-- Its entries at the even places of the next lane. -/
def evenNext (a b : Vec F S256x128 .f32) : FVec F S256x128 .f32 := k0_pay18 k0_pay3 k0_pay4 (k0_pay6 a) b

/-- Its entries at the odd places of the next lane. -/
def oddNext (a b : Vec F S256x128 .f32) : FVec F S256x128 .f32 := k0_pay20 k0_pay3 k0_pay4 (k0_pay6 a) b

/-- A tile's store, of its own two blocks and the next tile's. -/
def tile (a b a' b' : Vec F S256x128 .f32) : FVec F S256x128 .f32 :=
  k0_pay28 k0_pay5 (even a b) (odd a b) (evenNext a' b') (evenNext a b) (oddNext a' b') (oddNext a b)

/-- The last tile's store, of 127 columns. -/
def lastTile (a b : Vec F S256x128 .f32) : FVec F S256x127 .f32 :=
  k0_pay27 (even a b) (odd a b) (evenNext a b) (oddNext a b) (k0_pay22 k0_pay3 k0_pay4 (k0_pay6 a) b)
    (k0_pay23 k0_pay3 k0_pay4 (k0_pay6 a) b) (k0_pay24 k0_pay3 k0_pay4 (k0_pay6 a) b)
    (k0_pay25 k0_pay3 k0_pay4 (k0_pay6 a) b) k0_pay26

/-- Block `k` of 128 input columns lies in the input's block. -/
theorem inb_in (k : Fin 32) : ∀ a, (![0, 128 * k.val] : Fin 2 → ℕ) a + S256x128.size a ≤ S256x4096.size a := by
  revert k; decide

/-- Tile `t`'s 128 output columns lie in the output's block. -/
theorem inb_out (t : Fin 15) : ∀ a, (![0, 128 * t.val] : Fin 2 → ℕ) a + S256x128.size a ≤ S256x2047.size a := by
  revert t; decide

/-- The last tile's 127 output columns lie in the output's block. -/
theorem inb_last : ∀ a, (![0, 1920] : Fin 2 → ℕ) a + S256x127.size a ≤ S256x2047.size a := by decide

/-- The load of block `k` of the input. -/
def load (arg1 : Memref sig .tc .vmem S256x4096 .f32) (harg1 : arg1.IsWhole) (x0 : Vec F S256x4096 .f32) (k : Fin 32) :
    Vec F S256x128 .f32 :=
  View.readAt (Elt F) arg1.view (Rect.unit (s := S256x4096) ![0, 128 * k.val] S256x128.size (inb_in k)).toLoadRect (harg1.unread x0)

/-- The stores, the newest first. -/
def pieces (ld : Fin 32 → Vec F S256x128 .f32) : List (View.Piece (Elt F) S256x2047 .f32) :=
  (List.ofFn fun t : Fin 15 => (⟨Rect.unit ![0, 128 * t.val] S256x128.size (inb_out t),
      tile (ld ⟨2 * t.val, by omega⟩) (ld ⟨2 * t.val + 1, by omega⟩) (ld ⟨2 * t.val + 2, by omega⟩)
        (ld ⟨2 * t.val + 3, by omega⟩)⟩ : View.Piece (Elt F) S256x2047 .f32))
    ++ [⟨Rect.unit ![0, 1920] S256x127.size inb_last, lastTile (ld 30) (ld 31)⟩]

/-- The body's stores are those of the sixteen tiles. -/
theorem run_pieces (c : Dev nD) (i : grid0.Coords) (arg1 : Memref sig .tc .vmem S256x4096 .f32) (harg1 : arg1.IsWhole)
    (arg2 : Memref sig .tc .vmem S256x2047 .f32) (harg2 : arg2.IsWhole) (x0 : Vec F S256x4096 .f32) :
    (kernelRun0_A c i arg1 harg1 arg2 harg2 x0).1 = pieces (load arg1 harg1 x0) := by
  sl_kernel_rfl

end Cert.Tiles

end
-- ==== Proof.Pool.lean ====
/- The pooling of one window of four extended reals: its value as the program under proof computes it, the position of
   the window's first maximum, and the constants 1/4 and 1/2 of the weights. -/
module

public import Idealize.ShloMosaic.PureOps.Ideal
public import Idealize.ShloMosaic.PureOps.Ideal.Laws
public import Idealize.ShloMosaic.Lib.IdealHost

@[expose] public section

noncomputable section

namespace Cert.Pool

open Idealize.ShloMosaic

/-- One quarter and one half as extended reals. -/
def quarter : EReal := ((1 / 4 : ℝ) : EReal)
def half : EReal := ((1 / 2 : ℝ) : EReal)

/-- The binary32 word of a quarter denotes a quarter. -/
theorem ofBits_quarter : Ideal.ofBits .f32 0x3E800000#32 = quarter := by
  have h1 : (0x3E800000#32 : BitVec 32).extractLsb' (8 + 23) 1 = 0#1 := by decide
  have h2 : ((0x3E800000#32 : BitVec 32).extractLsb' 23 8).toNat = 125 := by decide
  have h3 : ((0x3E800000#32 : BitVec 32).extractLsb' 0 23).toNat = 0 := by decide
  unfold quarter Ideal.ofBits Ideal.ieee
  simp only [h1, h2, h3]
  norm_num [zpow_neg]

/-- The binary32 word of a half denotes a half. -/
theorem ofBits_half : Ideal.ofBits .f32 0x3F000000#32 = half := by
  have h1 : (0x3F000000#32 : BitVec 32).extractLsb' (8 + 23) 1 = 0#1 := by decide
  have h2 : ((0x3F000000#32 : BitVec 32).extractLsb' 23 8).toNat = 126 := by decide
  have h3 : ((0x3F000000#32 : BitVec 32).extractLsb' 0 23).toNat = 0 := by decide
  unfold half Ideal.ofBits Ideal.ieee
  simp only [h1, h2, h3]
  norm_num [zpow_neg]

/-- A quarter distributes over every sum of extended reals. -/
theorem quarter_mul_add (x y : EReal) : quarter * (x + y) = quarter * x + quarter * y :=
  EReal.left_distrib_of_nonneg_of_ne_top (by unfold quarter; exact_mod_cast (by norm_num : (0 : ℝ) ≤ 1 / 4))
    (by unfold quarter; exact EReal.coe_ne_top _) x y

/-- One window pooled: the maximum alone where it stands at an end, else a half of it and a quarter of each
    neighbour. -/
def pool (a b c d : EReal) : EReal :=
  if max c d ≤ max a b then (if b ≤ a then a else quarter * (a + c) + half * b)
  else (if d ≤ c then quarter * (b + d) + half * c else d)

/-- The position of a window's first maximum, as a word. -/
def argOf (a b c d : EReal) : BitVec 32 :=
  if max c d ≤ max a b then (if b ≤ a then 0#32 else 1#32) else (if d ≤ c then 2#32 else 3#32)

end Cert.Pool

end
-- ==== Proof.TileRead.lean ====
/- The kernel's gathers and rotations read at an entry: the even and odd places of a tile's two blocks. -/
module

public import proofs.«01_k».proof.Proof.Tiles
public import proofs.«01_k».proof.Proof.Pool
public import Idealize.ShloMosaic.Lib.Pointwise

@[expose] public section

set_option maxRecDepth 16384

noncomputable section

namespace Cert.Tiles

open Idealize.ShloMosaic Cert.KernelIdeal Cert.KernelIdeal.Gen

variable (a b a' b' : Vec Ideal S256x128 .f32) (r : Fin 256) (l : Fin 128)

/-- Lane `l`'s place in the first gather: `2 * l` below lane 64, `2 * (l - 64) + 1` from it on. -/
def placeA (l : Fin 128) : Fin 128 := if h : l.val < 64 then ⟨2 * l.val, by omega⟩ else ⟨2 * (l.val - 64) + 1, by omega⟩

/-- Lane `l`'s place in the second gather: `2 * l + 1` below lane 64, `2 * (l - 64)` from it on. -/
def placeB (l : Fin 128) : Fin 128 := if h : l.val < 64 then ⟨2 * l.val + 1, by omega⟩ else ⟨2 * (l.val - 64), by omega⟩

/-- A place as a gather takes it, a negative one wrapped. -/
def wrap (v : BitVec 32) : BitVec 32 := Scalar.select (IntOp.cmpi .slt v 0#32) (IntOp.addi v 128#32) v

/-- The first gather's word on lane `l`. -/
def wordA (l : Fin 128) : BitVec 32 :=
  Scalar.select (IntOp.cmpi .slt (BitVec.ofNat 32 l.val) 64#32) (IntOp.muli 2#32 (BitVec.ofNat 32 l.val))
    (IntOp.addi (IntOp.muli 2#32 (IntOp.subi (BitVec.ofNat 32 l.val) 64#32)) 1#32)

/-- The second gather's word on lane `l`. -/
def wordB (l : Fin 128) : BitVec 32 :=
  Scalar.select (IntOp.cmpi .slt (BitVec.ofNat 32 l.val) 64#32) (IntOp.addi (IntOp.muli 2#32 (BitVec.ofNat 32 l.val)) 1#32)
    (IntOp.muli 2#32 (IntOp.subi (BitVec.ofNat 32 l.val) 64#32))

theorem wordA_place : ∀ l : Fin 128, (wrap (wordA l)).toNat % 128 = (placeA l).val := by decide +kernel
theorem wordB_place : ∀ l : Fin 128, (wrap (wordB l)).toNat % 128 = (placeB l).val := by decide +kernel

/-- The first gather at an entry. -/
theorem gatherA_apply : k0_pay6 a (ix2 r l) = a (ix2 r (placeA l)) := by
  have h : k0_pay6 a (ix2 r l) = a (ix2 r ⟨(wrap (wordA l)).toNat % 128, Nat.mod_lt _ (by decide)⟩) := by
    unfold k0_pay6 k0_pay2 wrap wordA
    pointwise
  rw [h]
  exact congrArg (fun k => a (ix2 r k)) (Fin.ext (wordA_place l))

/-- The second gather at an entry. -/
theorem gatherB_apply : k0_pay10 k0_pay3 b (ix2 r l) = b (ix2 r (placeB l)) := by
  have h : k0_pay10 k0_pay3 b (ix2 r l) = b (ix2 r ⟨(wrap (wordB l)).toNat % 128, Nat.mod_lt _ (by decide)⟩) := by
    unfold k0_pay10 k0_pay3 wrap wordB
    pointwise
  rw [h]
  exact congrArg (fun k => b (ix2 r k)) (Fin.ext (wordB_place l))

/-- Two blocks of 128 columns side by side, read at a column. -/
def pair (q : Fin 256) : Elt Ideal .f32 :=
  if h : q.val < 128 then a (ix2 r ⟨q.val, h⟩) else b (ix2 r ⟨q.val - 128, by omega⟩)

/-- A place in the first block. -/
theorem pair_left (q : Fin 256) (k : Fin 128) (h : k.val = q.val) : a (ix2 r k) = pair a b r q := by
  unfold pair
  rw [dif_pos (by omega)]
  exact congrArg (fun k => a (ix2 r k)) (Fin.ext h)

/-- A place in the second block. -/
theorem pair_right (q : Fin 256) (k : Fin 128) (h : k.val + 128 = q.val) : b (ix2 r k) = pair a b r q := by
  unfold pair
  rw [dif_neg (by omega)]
  exact congrArg (fun k => b (ix2 r k)) (Fin.ext (by show k.val = q.val - 128; omega))

/-- Which lanes lie below lane 64. -/
theorem low_bit : ∀ l : Fin 128, IntOp.cmpi .slt (BitVec.ofNat 32 l.val) 64#32 = if l.val < 64 then 1#1 else 0#1 := by
  decide +kernel

/-- Which lane is the last. -/
theorem last_bit : ∀ l : Fin 128, IntOp.cmpi .eq (BitVec.ofNat 32 l.val) 127#32 = if l.val = 127 then 1#1 else 0#1 := by
  decide +kernel

theorem placeA_low (l : Fin 128) (h : l.val < 64) : (placeA l).val = 2 * l.val := by unfold placeA; rw [dif_pos h]
theorem placeA_high (l : Fin 128) (h : ¬ l.val < 64) : (placeA l).val = 2 * (l.val - 64) + 1 := by
  unfold placeA; rw [dif_neg h]
theorem placeB_low (l : Fin 128) (h : l.val < 64) : (placeB l).val = 2 * l.val + 1 := by unfold placeB; rw [dif_pos h]
theorem placeB_high (l : Fin 128) (h : ¬ l.val < 64) : (placeB l).val = 2 * (l.val - 64) := by
  unfold placeB; rw [dif_neg h]

/-- A select on a decided bit. -/
theorem select_bit {α : Type} (p : Prop) [Decidable p] (x y : α) :
    Scalar.select (if p then 1#1 else 0#1) x y = if p then x else y := by
  by_cases h : p
  · rw [if_pos h, if_pos h]; exact if_pos rfl
  · rw [if_neg h, if_neg h]; exact if_neg (by decide)

/-- The even places. -/
theorem even_apply : even a b (ix2 r l) = pair a b r ⟨2 * l.val, by omega⟩ := by
  have h : even a b (ix2 r l) = Scalar.select (IntOp.cmpi .slt (BitVec.ofNat 32 l.val) 64#32)
      (k0_pay6 a (ix2 r l)) (k0_pay10 k0_pay3 b (ix2 r l)) := by
    unfold even k0_pay12 k0_pay4
    pointwise
  rw [h, low_bit, select_bit, gatherA_apply, gatherB_apply]
  split
  · next hl => exact pair_left a b r _ _ (placeA_low l hl)
  · next hl =>
    refine pair_right a b r _ _ ?_
    rw [placeB_high l hl]
    show 2 * (l.val - 64) + 128 = 2 * l.val
    omega

/-- The odd places before they are rotated: lane `l`'s stands on lane `l + 64`. -/
theorem swapped_apply : k0_pay14 k0_pay3 k0_pay4 (k0_pay6 a) b (ix2 r l)
    = pair a b r ⟨2 * ((l.val + 64) % 128) + 1, by omega⟩ := by
  have h : k0_pay14 k0_pay3 k0_pay4 (k0_pay6 a) b (ix2 r l) = Scalar.select (IntOp.cmpi .slt (BitVec.ofNat 32 l.val) 64#32)
      (k0_pay10 k0_pay3 b (ix2 r l)) (k0_pay6 a (ix2 r l)) := by
    unfold k0_pay14 k0_pay4
    pointwise
  rw [h, low_bit, select_bit, gatherA_apply, gatherB_apply]
  split
  · next hl =>
    refine pair_right a b r _ _ ?_
    rw [placeB_low l hl]
    show 2 * l.val + 1 + 128 = 2 * ((l.val + 64) % 128) + 1
    omega
  · next hl =>
    refine pair_left a b r _ _ ?_
    rw [placeA_high l hl]
    show 2 * (l.val - 64) + 1 = 2 * ((l.val + 64) % 128) + 1
    omega

/-- A place of the pair depends on its number only. -/
theorem pair_congr (q q' : Fin 256) (h : q.val = q'.val) : pair a b r q = pair a b r q' := by rw [Fin.ext h]

/-- The odd places. -/
theorem odd_apply : odd a b (ix2 r l) = pair a b r ⟨2 * l.val + 1, by omega⟩ := by
  have h : odd a b (ix2 r l) = k0_pay14 k0_pay3 k0_pay4 (k0_pay6 a) b
      (ix2 r ⟨(l.val + 128 - 64) % 128, Nat.mod_lt _ (by decide)⟩) := by
    unfold odd k0_pay16
    pointwise
  rw [h, swapped_apply]
  refine pair_congr a b r _ _ ?_
  show 2 * (((l.val + 128 - 64) % 128 + 64) % 128) + 1 = 2 * l.val + 1
  omega

/-- The even places of the next lane, the last lane's next the first. -/
theorem evenNext_apply : evenNext a b (ix2 r l) = pair a b r ⟨2 * ((l.val + 1) % 128), by omega⟩ := by
  have h : evenNext a b (ix2 r l) = even a b (ix2 r ⟨(l.val + 128 - 127) % 128, Nat.mod_lt _ (by decide)⟩) := by
    unfold evenNext k0_pay18 even
    pointwise
  rw [h, even_apply]
  refine pair_congr a b r _ _ ?_
  show 2 * ((l.val + 128 - 127) % 128) = 2 * ((l.val + 1) % 128)
  omega

/-- The odd places of the next lane, the last lane's next the first. -/
theorem oddNext_apply : oddNext a b (ix2 r l) = pair a b r ⟨2 * ((l.val + 1) % 128) + 1, by omega⟩ := by
  have h : oddNext a b (ix2 r l) = k0_pay14 k0_pay3 k0_pay4 (k0_pay6 a) b
      (ix2 r ⟨(l.val + 128 - 63) % 128, Nat.mod_lt _ (by decide)⟩) := by
    unfold oddNext k0_pay20
    pointwise
  rw [h, swapped_apply]
  refine pair_congr a b r _ _ ?_
  show 2 * (((l.val + 128 - 63) % 128 + 64) % 128) + 1 = 2 * ((l.val + 1) % 128) + 1
  omega

/-- The even place after a lane's own, from the next tile at the last lane. -/
def third : Elt Ideal .f32 := if l.val = 127 then evenNext a' b' (ix2 r l) else evenNext a b (ix2 r l)

/-- The odd place after a lane's own, from the next tile at the last lane. -/
def fourth : Elt Ideal .f32 := if l.val = 127 then oddNext a' b' (ix2 r l) else oddNext a b (ix2 r l)

/-- A tile's store at an entry: the pooled value of four entries. -/
theorem tile_pool : tile a b a' b' (ix2 r l)
    = Pool.pool (even a b (ix2 r l)) (odd a b (ix2 r l)) (third a b a' b' r l) (fourth a b a' b' r l) := by
  unfold tile k0_pay28 k0_pay5
  pointwise
  simp only [last_bit, select_bit, Pool.ofBits_quarter, Pool.ofBits_half]
  unfold Pool.pool third fourth
  rfl

/-- The last tile's store at an entry. -/
theorem lastTile_pool (l : Fin 127) : lastTile a b (ix2 r l)
    = Pool.pool (even a b (ix2 r ⟨l.val, by omega⟩)) (odd a b (ix2 r ⟨l.val, by omega⟩))
        (evenNext a b (ix2 r ⟨l.val, by omega⟩)) (oddNext a b (ix2 r ⟨l.val, by omega⟩)) := by
  unfold lastTile k0_pay27 k0_pay22 k0_pay23 k0_pay24 k0_pay25 k0_pay26
  pointwise
  simp only [Pool.ofBits_quarter, Pool.ofBits_half]
  unfold Pool.pool even odd evenNext oddNext
  rfl

end Cert.Tiles

end
-- ==== Proof.Block.lean ====
/- What the body leaves in its output block: each row's windows of four pooled. -/
module

public import proofs.«01_k».proof.Proof.TileRead
public import Idealize.ShloMosaic.Lib.WholeRead

@[expose] public section

set_option maxRecDepth 16384

noncomputable section

namespace Cert.Block

open Idealize.ShloMosaic Cert.KernelIdeal Cert.KernelIdeal.Gen Cert.Tiles

/-- A row's entry at a column's number (zero past the row's end, where no window reaches). -/
def col {n : ℕ} (x : (⟨2, ![n, 4096]⟩ : Shape).Idx → Elt Ideal .f32) (r : Fin n) (q : ℕ) : Elt Ideal .f32 :=
  if h : q < 4096 then x (ix2 r ⟨q, h⟩) else (0 : EReal)

/-- Row `r`'s window `o` pooled. -/
def window {n : ℕ} (x : (⟨2, ![n, 4096]⟩ : Shape).Idx → Elt Ideal .f32) (r : Fin n) (o : ℕ) : Elt Ideal .f32 :=
  Pool.pool (col x r (2 * o)) (col x r (2 * o + 1)) (col x r (2 * o + 2)) (col x r (2 * o + 3))

/-- An array of pooled rows. -/
def pooled {n : ℕ} (x : (⟨2, ![n, 4096]⟩ : Shape).Idx → Elt Ideal .f32) (y : (⟨2, ![n, 2047]⟩ : Shape).Idx) :
    Elt Ideal .f32 := window x (y 0) (y 1).val

section Body
variable (arg1 : Memref sig .tc .vmem S256x4096 .f32) (harg1 : arg1.IsWhole) (x0 : Vec Ideal S256x4096 .f32)

/-- A load at an entry. -/
theorem load_apply (k : Fin 32) (r : Fin 256) (l : Fin 128) :
    load arg1 harg1 x0 k (ix2 r l) = col x0 r (128 * k.val + l.val) := by
  unfold Tiles.load col
  rw [Memref.IsWhole.readAt_unread, dif_pos (by omega)]
  refine congrArg x0 (funext fun a => Fin.ext ?_)
  match a with
  | ⟨0, _⟩ => show 0 + 1 * r.val = r.val; omega
  | ⟨1, _⟩ => show 128 * k.val + 1 * l.val = 128 * k.val + l.val; omega

/-- Two consecutive loads side by side at an entry. -/
theorem pair_load (k k' : Fin 32) (hk : k'.val = k.val + 1) (r : Fin 256) (q : Fin 256) :
    pair (load arg1 harg1 x0 k) (load arg1 harg1 x0 k') r q = col x0 r (128 * k.val + q.val) := by
  unfold pair
  split
  · rw [load_apply]
  · rw [load_apply]
    congr 1
    show 128 * k'.val + (q.val - 128) = _
    omega

/-- A tile's store at an entry. -/
theorem tile_apply (t : Fin 15) (r : Fin 256) (l : Fin 128) :
    tile (load arg1 harg1 x0 ⟨2 * t.val, by omega⟩) (load arg1 harg1 x0 ⟨2 * t.val + 1, by omega⟩)
      (load arg1 harg1 x0 ⟨2 * t.val + 2, by omega⟩) (load arg1 harg1 x0 ⟨2 * t.val + 3, by omega⟩) (ix2 r l)
      = window x0 r (128 * t.val + l.val) := by
  rw [tile_pool, even_apply, odd_apply]
  unfold third fourth
  rw [evenNext_apply, evenNext_apply, oddNext_apply, oddNext_apply]
  rw [pair_load _ _ _ _ _ (by rfl), pair_load _ _ _ _ _ (by rfl), pair_load _ _ _ _ _ (by rfl), pair_load _ _ _ _ _ (by rfl),
    pair_load _ _ _ _ _ (by rfl), pair_load _ _ _ _ _ (by rfl)]
  unfold window
  have hl := l.isLt
  by_cases h : l.val = 127
  · rw [if_pos h, if_pos h]
    congr 2 <;> simp only <;> omega
  · rw [if_neg h, if_neg h]
    congr 2 <;> simp only <;> omega

/-- The last tile's store at an entry. -/
theorem lastTile_apply (r : Fin 256) (l : Fin 127) :
    lastTile (load arg1 harg1 x0 30) (load arg1 harg1 x0 31) (ix2 r l) = window x0 r (1920 + l.val) := by
  rw [lastTile_pool, even_apply, odd_apply, evenNext_apply, oddNext_apply]
  rw [pair_load _ _ _ _ _ (by rfl), pair_load _ _ _ _ _ (by rfl), pair_load _ _ _ _ _ (by rfl), pair_load _ _ _ _ _ (by rfl)]
  unfold window
  have hl := l.isLt
  have h30 : ((30 : Fin 32) : ℕ) = 30 := rfl
  congr 2 <;> simp only [h30] <;> omega

/-- Every store agrees with the pooled rows. -/
theorem pieces_pooled : ∀ p ∈ pieces (load arg1 harg1 x0), ∀ x : p.1.shape.Idx, p.2 x = pooled x0 (p.1.emb x) := by
  intro p hp
  unfold pieces at hp
  rcases List.mem_append.mp hp with hp | hp
  · obtain ⟨t, rfl⟩ := List.mem_ofFn.mp hp
    intro x
    have hx : x = ix2 (n0 := 256) (n1 := 128) (x 0) (x 1) := by
      funext a
      match a with
      | ⟨0, _⟩ => rfl
      | ⟨1, _⟩ => rfl
    show tile _ _ _ _ x = _
    rw [hx]
    refine (tile_apply arg1 harg1 x0 t (x 0) (x 1)).trans ?_
    unfold pooled
    refine congrArg₂ (window x0) (Fin.ext ?_) ?_
    · show (x 0).val = 0 + 1 * (x 0).val
      omega
    · show 128 * t.val + (x 1).val = 128 * t.val + 1 * (x 1).val
      omega
  · obtain rfl := List.mem_singleton.mp hp
    intro x
    have hx : x = ix2 (n0 := 256) (n1 := 127) (x 0) (x 1) := by
      funext a
      match a with
      | ⟨0, _⟩ => rfl
      | ⟨1, _⟩ => rfl
    show lastTile _ _ x = _
    rw [hx]
    refine (lastTile_apply arg1 harg1 x0 (x 0) (x 1)).trans ?_
    unfold pooled
    refine congrArg₂ (window x0) (Fin.ext ?_) ?_
    · show (x 0).val = 0 + 1 * (x 0).val
      omega
    · show 1920 + (x 1).val = 1920 + 1 * (x 1).val
      omega

/-- The body's output block: its input's rows pooled. -/
theorem out_pooled (c : Dev nD) (i : grid0.Coords) (arg2 : Memref sig .tc .vmem S256x2047 .f32) (harg2 : arg2.IsWhole) :
    out0_A_1 (F := Ideal) c i arg1 harg1 arg2 harg2 x0 = pooled x0 := by
  unfold out0_A_1
  funext y
  have hc := cover0_A_1 (F := Ideal) c i arg1 harg1 arg2 harg2 x0 y
  rw [run_pieces] at hc ⊢
  exact View.read_writes_apply_of_pieces _ _ _ _ (pieces_pooled arg1 harg1 x0) y hc
end Body

end Cert.Block

end
-- ==== Proof.Whole.lean ====
/-
  The kernel's whole result: the 64 blocks the grid writes back tile the 16384 x 2047 array, and each is its block of
  one array, the pooled rows of the 16384 x 4096 operand. So that is what the array holds after the run.
-/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.Whole

open Idealize.ShloMosaic Idealize.ShloMosaic.TcCoe Idealize.SL.Sem
open Idealize.ShloMosaic.Pipeline (Dat)
open Cert.KernelIdeal Cert.KernelIdeal.Gen Cert.Block

/-- A row read by column number depends on the row's entries alone. -/
theorem col_congr {n n' : Nat} (x : (⟨2, ![n, 4096]⟩ : Shape).Idx → Elt Ideal .f32) (X : (⟨2, ![n', 4096]⟩ : Shape).Idx → Elt Ideal .f32)
    (r : Fin n) (R : Fin n') (h : ∀ q : Fin 4096, x (ix2 r q) = X (ix2 R q)) (k : Nat) : col x r k = col X R k := by
  unfold col
  split
  · exact h _
  · rfl

/-- So does the pooled value of a window of the row. -/
theorem window_congr {n n' : Nat} (x : (⟨2, ![n, 4096]⟩ : Shape).Idx → Elt Ideal .f32) (X : (⟨2, ![n', 4096]⟩ : Shape).Idx → Elt Ideal .f32)
    (r : Fin n) (R : Fin n') (h : ∀ q : Fin 4096, x (ix2 r q) = X (ix2 R q)) (o : Nat) : window x r o = window X R o := by
  unfold window
  rw [col_congr x X r R h, col_congr x X r R h, col_congr x X r R h, col_congr x X r R h]

/-- Point `t` of the grid works on block row `t` of the operand and of the result. -/
theorem idx : ∀ t : Fin cfg0.N, win0_0.index t = ![t.val, 0] ∧ win0_1.index t = ![t.val, 0] :=
  (by decide +kernel : ∀ t : Fin grid0.N, _)

variable (m : (ℓ : Loc nD τ sig) → Buf (Elt Ideal) ℓ)

/-- The operand's block at point `t`, pooled, is block `t` of the pooled operand. -/
theorem point (c : Dev nD) (t : Fin cfg0.N) (y : S256x2047.Idx) :
    pooled (n := 256) (iblk m c 0 t) y
      = pooled (n := 16384) (V m c main_v0) (((cfg0.win 1).blk t).view.emb y) := by
  unfold pooled
  have h : (((((cfg0.win 1).blk t).view.emb y) 1 : Fin _) : Nat) = (y 1).val := by
    blk_simp [idx t]
  refine (window_congr _ _ (y 0) ((((cfg0.win 1).blk t).view.emb y) 0) (fun q => ?_) (y 1).val).trans
    (congrArg (window (V m c main_v0) _) h.symm)
  blk_ext [iblk, V, idx t]

/-- After the run the result's rows are the pooled rows of the operand. -/
theorem final (c : Dev nD) :
    (dats m 0 c).arrAt 1 (cfgs 0).N = pooled (n := 16384) (V m c main_v0) := by
  refine (dats m 0 c).arrAt_eq_of_covers 1 _ (by decide +kernel) fun t _ y => ?_
  blk_simp
  rw [after0_1]
  unfold outsAt0
  rw [out_pooled]
  exact point m c t y

end Cert.Whole

end
-- ==== Proof.RefArg.lean ====
/- The reference's `argmax` read at an entry: the word of the window's first maximum. -/
module

public import proofs.«01_k».proof.Proof.RefTerm
public import proofs.«01_k».proof.Proof.Pool
public import Idealize.ShloMosaic.Lib.Pointwise

@[expose] public section

set_option maxRecDepth 16384

noncomputable section

namespace Cert.Ref

open Idealize.ShloMosaic Cert.ReferenceIdeal Cert.ReferenceIdeal.Facts₀

/-- One step of the reducer: the larger value, and the first index unless the second value is larger (or equal at a
    smaller index). -/
theorem reducer_step (p q : EReal) (i j : BitVec 32) :
    reducer_argmax_f32_i32 (F := Ideal) (p, i) (q, j)
      = (max p q, if q < p ∨ (p = q ∧ i.toInt < j.toInt) then i else j) := by
  unfold reducer_argmax_f32_i32
  simp only [Ideal.cmpf_def, Ideal.cmp, IntOp.cmpi, IntOp.ori, IntOp.andi, Scalar.select]
  rcases lt_trichotomy p q with h | h | h
  · simp [h, h.le, not_lt.2 h.le, h.ne]
  · subst h
    by_cases hij : i.toInt < j.toInt <;> simp [hij, BitVec.slt]
  · simp [h, h.le, h.ne']

/-- The same where the second index is the larger one. -/
theorem reducer_step_lt (p q : EReal) (i j : BitVec 32) (hij : i.toInt < j.toInt) :
    reducer_argmax_f32_i32 (F := Ideal) (p, i) (q, j) = (max p q, if q ≤ p then i else j) := by
  rw [reducer_step]
  congr 1
  refine if_congr ?_ rfl rfl
  rw [le_iff_lt_or_eq]
  exact or_congr Iff.rfl ⟨fun h => h.1.symm, fun h => ⟨h.symm, hij⟩⟩

/-- The fold over a window's four entries ends at the position of the first maximum. -/
theorem foldl_reducer (a b c d : EReal) :
    (([(a, 0#32), (b, 1#32), (c, 2#32), (d, 3#32)] : List (EReal × BitVec 32)).foldl
      (reducer_argmax_f32_i32 (F := Ideal)) (⊥, 0#32)).2 = Pool.argOf a b c d := by
  simp only [List.foldl]
  rw [reducer_step ⊥ a, ite_self, max_eq_right bot_le, reducer_step_lt a b _ _ (by decide),
    reducer_step_lt _ c _ _ (by split <;> decide), reducer_step_lt _ d _ _ (by split; split; all_goals decide)]
  unfold Pool.argOf
  by_cases h1 : max c d ≤ max a b
  · rw [if_pos h1, if_pos ((le_max_right c d).trans (h1.trans (le_max_left _ _))), if_pos ((le_max_left c d).trans h1)]
  · rw [if_neg h1]
    by_cases h2 : d ≤ c
    · have hc : ¬ c ≤ max a b := fun h => h1 (max_le h (h2.trans h))
      rw [if_pos h2, if_pos (h2.trans (le_max_right _ _)), if_neg hc]
    · have hd : ¬ d ≤ max (max a b) c := fun h => h1 <| by
        rcases le_max_iff.1 h with h | h
        · exact max_le ((le_of_not_ge h2).trans h) h
        · exact absurd h h2
      rw [if_neg h2, if_neg hd]

/-- The entries of the windows over one result entry, in the order in which the reduction takes them. -/
theorem fiber_list {α β : Type} (x : S8x32x64x2047x4.Idx → α) (y : S8x32x64x2047x4.Idx → β)
    (h : S8x32x64x2047x4.ReducesTo [4] S8x32x64x2047) (b : Fin 8) (c : Fin 32) (r : Fin 64) (o : Fin 2047) :
    Host.argReduceFiber x y h (ix4 b c r o)
      = (List.finRange 4).map fun p => (x (ix5 b c r o p), y (ix5 b c r o p)) := by
  have key : ((List.finRange S8x32x64x2047x4.numel).filter fun n =>
        h.drop (S8x32x64x2047x4.rowMajor.symm n) = ix4 b c r o)
      = (List.finRange 4).map fun p => S8x32x64x2047x4.rowMajor (ix5 b c r o p) := by
    refine List.Perm.eq_of_pairwise (le := (· < ·)) ?_ ?_ ?_ ?_
    · intro a b _ _ h1 h2; exact absurd h1 (lt_asymm h2)
    · exact (List.pairwise_lt_finRange _).filter _
    · exact List.pairwise_map.2 ((List.pairwise_lt_finRange 4).imp fun {p q} hpq => by
        rw [Fin.lt_def, Idealize.ShloMosaic.rowMajor_val5 _ _ _ _ _ rfl rfl rfl rfl,
          Idealize.ShloMosaic.rowMajor_val5 _ _ _ _ _ rfl rfl rfl rfl]
        exact Nat.add_lt_add_left hpq _)
    · refine (List.perm_ext_iff_of_nodup ((List.nodup_finRange _).filter _)
        ((List.nodup_finRange 4).map fun p q e => ?_)).2 fun n => ?_
      · exact congrFun (S8x32x64x2047x4.rowMajor.injective e) 4
      · simp only [List.mem_filter, List.mem_finRange, true_and, decide_eq_true_eq, List.mem_map]
        rw [h.fiber_r5_a4]
        exact exists_congr fun p => by rw [Equiv.eq_symm_apply]; rfl
  unfold Host.argReduceFiber
  rw [key, List.map_map]
  refine List.map_congr_left fun p _ => ?_
  simp only [Function.comp_apply, Equiv.symm_apply_apply]

/-- The reduction of value and index pairs at an entry is the fold over the window's entries. -/
theorem argReduce_apply (w : FVec Ideal S8x32x64x2047x4 .f32) (j : S8x32x64x2047.Idx)
    (h : S8x32x64x2047x4.ReducesTo [4] S8x32x64x2047) (hu : 0 < S_.numel) :
    Host.argReduce (F := Ideal) reducer_argmax_f32_i32 w (iotaInDim S8x32x64x2047x4 32 4)
        (constant (F := Ideal) S_ .f32 0xFF800000#32) (constantI S_ 32 0#32) h hu j
      = (Host.argReduceFiber w (iotaInDim S8x32x64x2047x4 32 4) h j).foldl
          (reducer_argmax_f32_i32 (F := Ideal)) (⊥, 0#32) := by
  have hb : constant (F := Ideal) S_ .f32 0xFF800000#32 (Shape.Idx.first hu) = (⊥ : EReal) := by
    show Ideal.ofBits .f32 0xFF800000#32 = ⊥
    simp [Ideal.ofBits, Ideal.ieee]
  have hc : constantI S_ 32 0#32 (Shape.Idx.first hu) = 0#32 := rfl
  rw [Ideal.argReduce_eq_reduce2, Host.reduce2_eq_foldl_fiber, hb, hc]

/-- `argPos` as a function of the entry. -/
theorem argPos_fun [Cert.ReferenceIdeal.Facts] (w : FVec Ideal S8x32x64x2047x4 .f32) :
    argPos w = fun j => (Host.argReduce reducer_argmax_f32_i32 w (iotaInDim S8x32x64x2047x4 32 4)
      (constant (F := Ideal) S_ .f32 0xFF800000#32) (constantI S_ 32 0#32)
      reducesTo_S8x32x64x2047x4_S8x32x64x2047_d4 h_S_ j).2 := by
  unfold argPos; with_reducible rfl

/-- `argPos` at an entry: the position of the window's first maximum. -/
theorem argPos_apply [Cert.ReferenceIdeal.Facts] (w : FVec Ideal S8x32x64x2047x4 .f32)
    (b : Fin 8) (c : Fin 32) (r : Fin 64) (o : Fin 2047) :
    argPos w (ix4 b c r o)
      = Pool.argOf (w (ix5 b c r o 0)) (w (ix5 b c r o 1)) (w (ix5 b c r o 2)) (w (ix5 b c r o 3)) := by
  have hl {γ : Type} (f : Fin 4 → γ) : (List.finRange 4).map f = [f 0, f 1, f 2, f 3] := rfl
  rw [argPos_fun]
  simp only [argReduce_apply, fiber_list, hl]
  rw [← foldl_reducer]
  rfl

end Cert.Ref

end
-- ==== Proof.RefRead.lean ====
/- The reference's two gathers read at an entry: the windows are the argument's entries at `2 * o + p`, and the
   neighbours are the window's entries at the clipped positions. -/
module

public import proofs.«01_k».proof.Proof.RefTerm
public import proofs.«01_k».proof.Proof.Pool
public import Idealize.ShloMosaic.Lib.Pointwise
public import Idealize.ShloMosaic.Lib.Tactic.WordOmega

@[expose] public section

set_option maxRecDepth 16384

noncomputable section

namespace Cert.Ref

open Idealize.ShloMosaic Cert.ReferenceIdeal Cert.ReferenceIdeal.Facts₀

variable [Cert.ReferenceIdeal.Facts]

/-- The window positions are the words of `2 * o + p`. -/
theorem winIdx_apply (o : Fin 2047) (p : Fin 4) : winIdx (ix3 o p 0) = BitVec.ofNat 32 (2 * o.val + p.val) := by
  unfold winIdx rawIdx
  pointwise
  have ho := o.isLt
  have hp := p.isLt
  have h : IntOp.addi (IntOp.muli (BitVec.ofNat 32 o.val) 2#32) (BitVec.ofNat 32 p.val)
      = BitVec.ofNat 32 (2 * o.val + p.val) := by
    show BitVec.ofNat 32 o.val * 2#32 + BitVec.ofNat 32 p.val = _
    apply BitVec.eq_of_toNat_eq
    simp only [BitVec.toNat_add, BitVec.toNat_mul, BitVec.toNat_ofNat]
    omega
  rw [h]
  have hs : IntOp.cmpi .slt (BitVec.ofNat 32 (2 * o.val + p.val)) 0#32 = 0#1 := by
    have : (BitVec.ofNat 32 (2 * o.val + p.val)).slt 0#32 = false := by
      rw [BitVec.slt_eq_decide, decide_eq_false_iff_not, BitVec.toInt_eq_toNat_of_lt (by rw [BitVec.toNat_ofNat]; omega)]
      show ¬ ((_ : Int) < 0)
      omega
    show BitVec.ofBool _ = _
    rw [this]; rfl
  rw [hs]
  rfl

/-- The first gather at an entry: the operand at the start index, read signed and clamped. -/
theorem gather_win_apply (x : FVec Ideal S8x32x64x4096 .f32) (idx : IVec S2047x4x1 32)
    (b : Fin 8) (c : Fin 32) (r : Fin 64) (o : Fin 2047) (p : Fin 4) :
    Host.gather gather_S8x32x64x4096_S2047x4x1_S8x32x64x2047x4_012_3_n_n_3_2_832641 x idx (ix5 b c r o p)
      = x (ix4 b c r ⟨min (idx (ix3 o p 0)).toInt.toNat 4095, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  unfold GatherDims.start
  have h : a = 0 ∨ a = 1 ∨ a = 2 ∨ a = 3 := by revert a; decide
  rcases h with rfl | rfl | rfl | rfl
  · rw [dif_neg (by decide)]; rw [Nat.zero_add]; unfold GatherDims.offCoord; rw [dif_pos (by decide)]; rfl
  · rw [dif_neg (by decide)]; rw [Nat.zero_add]; unfold GatherDims.offCoord; rw [dif_pos (by decide)]; rfl
  · rw [dif_neg (by decide)]; rw [Nat.zero_add]; unfold GatherDims.offCoord; rw [dif_pos (by decide)]; rfl
  ·
    rw [GatherDims.offCoord_eq_zero _ _ _ (by decide), dif_pos (by decide), Nat.add_zero]
    have hsi : ∀ k, GatherDims.siIdx
        gather_S8x32x64x4096_S2047x4x1_S8x32x64x2047x4_012_3_n_n_3_2_832641 (ix5 b c r o p) k = ix3 o p 0 := by
      intro k
      have hk : k.val < 1 := k.isLt
      funext b; refine Fin.ext ?_
      match b with
      | ⟨0, _⟩ => rfl
      | ⟨1, _⟩ => rfl
      | ⟨2, _⟩ => show k.val = 0; omega
    rw [hsi]
    rfl

/-- The second gather at an entry: the window's entry at the start index, read signed and clamped. -/
theorem gather_take_apply (w : FVec Ideal S8x32x64x2047x4 .f32) (idx : IVec S8x32x64x2047x3x1 32)
    (b : Fin 8) (c : Fin 32) (r : Fin 64) (o : Fin 2047) (d : Fin 3) :
    Host.gather gather_S8x32x64x2047x4_S8x32x64x2047x3x1_S8x32x64x2047x3_n_4_0123_0123_4_5_11111 w idx (ix5 b c r o d)
      = w (ix5 b c r o ⟨min (idx (ix6 b c r o d 0)).toInt.toNat 3, by omega⟩) := by
  unfold Host.gather
  congr 1
  funext a
  refine Fin.ext ?_
  show GatherDims.start _ _ _ a + GatherDims.batchCoord _ _ a + GatherDims.offCoord _ _ a = _
  rw [GatherDims.offCoord_eq_zero _ _ _ (by revert a; decide), Nat.add_zero]
  have h : a = 0 ∨ a = 1 ∨ a = 2 ∨ a = 3 ∨ a = 4 := by revert a; decide
  rcases h with rfl | rfl | rfl | rfl | rfl
  · rw [GatherDims.start_batching _ _ _ _ (by decide), Nat.zero_add]; unfold GatherDims.batchCoord; rw [dif_pos (by decide)]; rfl
  · rw [GatherDims.start_batching _ _ _ _ (by decide), Nat.zero_add]; unfold GatherDims.batchCoord; rw [dif_pos (by decide)]; rfl
  · rw [GatherDims.start_batching _ _ _ _ (by decide), Nat.zero_add]; unfold GatherDims.batchCoord; rw [dif_pos (by decide)]; rfl
  · rw [GatherDims.start_batching _ _ _ _ (by decide), Nat.zero_add]; unfold GatherDims.batchCoord; rw [dif_pos (by decide)]; rfl
  ·
    rw [GatherDims.batchCoord_eq_zero _ _ _ (by decide), Nat.add_zero]
    unfold GatherDims.start
    rw [dif_pos (by decide)]
    have hsi : ∀ k, GatherDims.siIdx
        gather_S8x32x64x2047x4_S8x32x64x2047x3x1_S8x32x64x2047x3_n_4_0123_0123_4_5_11111 (ix5 b c r o d) k
          = ix6 b c r o d 0 := by
      intro k
      have hk : k.val < 1 := k.isLt
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => show k.val = 0; omega
    rw [hsi]
    rfl

/-- Window `o` of the argument: its entries at `2 * o + p`. -/
theorem win_apply (x : FVec Ideal S8x32x64x4096 .f32)
    (b : Fin 8) (c : Fin 32) (r : Fin 64) (o : Fin 2047) (p : Fin 4) :
    win x (ix5 b c r o p) = x (ix4 b c r ⟨2 * o.val + p.val, by have := o.isLt; have := p.isLt; omega⟩) := by
  have ho := o.isLt
  have hp := p.isLt
  unfold win
  rw [gather_win_apply]
  congr 2
  refine Fin.ext ?_
  show min (winIdx (ix3 o p 0)).toInt.toNat 4095 = 2 * o.val + p.val
  rw [winIdx_apply]
  show min (BitVec.ofNat 32 (2 * o.val + p.val)).toInt.toNat 4095 = 2 * o.val + p.val
  rw [BitVec.toInt_eq_toNat_of_lt (by rw [BitVec.toNat_ofNat]; omega), BitVec.toNat_ofNat]
  omega

end Cert.Ref

end
-- ==== Proof.RefValue.lean ====
/- The reference's result read at an entry: the pooled value of the window's four entries. -/
module

public import proofs.«01_k».proof.Proof.RefTerm
public import proofs.«01_k».proof.Proof.RefArg
public import proofs.«01_k».proof.Proof.RefRead
public import proofs.«01_k».proof.Proof.Pool
public import Idealize.ShloMosaic.Lib.Pointwise
public import Idealize.ShloMosaic.Lib.Tactic.WordOmega

@[expose] public section

set_option maxRecDepth 16384

noncomputable section

namespace Cert.Ref

open Idealize.ShloMosaic Cert.ReferenceIdeal Cert.ReferenceIdeal.Facts₀

variable [Cert.ReferenceIdeal.Facts]

/-- A position clipped to the window. -/
def clip (v : BitVec 32) : BitVec 32 := IntOp.minsi 3#32 (IntOp.maxsi 0#32 v)

/-- A clipped position is one of the four. -/
theorem clip_mem (v : BitVec 32) : clip v = 0#32 ∨ clip v = 1#32 ∨ clip v = 2#32 ∨ clip v = 3#32 := by
  have h : 0 ≤ (clip v).toInt ∧ (clip v).toInt ≤ 3 := by
    unfold clip IntOp.minsi IntOp.maxsi
    have h3 : (3#32).toInt = 3 := rfl
    have h0 : (0#32).toInt = 0 := rfl
    simp only [BitVec.slt_eq_decide, decide_eq_true_eq]
    split <;> split <;> simp only [h0, h3] at * <;> omega
  have h' : (clip v).toInt = 0 ∨ (clip v).toInt = 1 ∨ (clip v).toInt = 2 ∨ (clip v).toInt = 3 := by omega
  rcases h' with h | h | h | h
  · exact Or.inl (BitVec.eq_of_toInt_eq h)
  · exact Or.inr (Or.inl (BitVec.eq_of_toInt_eq h))
  · exact Or.inr (Or.inr (Or.inl (BitVec.eq_of_toInt_eq h)))
  · exact Or.inr (Or.inr (Or.inr (BitVec.eq_of_toInt_eq h)))

/-- Wrapping a negative position leaves a clipped one as it is. -/
theorem wrap_clip (v : BitVec 32) : Scalar.select (IntOp.cmpi .slt (clip v) 0#32) (IntOp.addi (clip v) 4#32) (clip v) = clip v := by
  rcases clip_mem v with h | h | h | h <;> rw [h] <;> rfl

/-- A clipped position passes the range test. -/
theorem range_clip (v : BitVec 32) : IntOp.andi (IntOp.cmpi .sge (clip v) 0#32) (IntOp.cmpi .sle (clip v) 3#32) = 1#1 := by
  rcases clip_mem v with h | h | h | h <;> rw [h] <;> rfl

/-- The conjunction of ones is one. -/
theorem fold_one {α : Type} (s : Finset α) : Finset.fold IntOp.andi (1#1) (fun _ => 1#1) s = 1#1 := by
  classical
  induction s using Finset.induction_on with
  | empty => rfl
  | insert a s ha ih => rw [Finset.fold_insert ha, ih]; rfl

/-- A select whose condition holds. -/
theorem select_of_one {s : Shape} {α : Type} (m : IVec s 1) (x y : s.Idx → α) (j : s.Idx) (h : m j = 1#1) :
    select m x y j = x j := by
  show Scalar.select (m j) (x j) (y j) = x j
  rw [h]
  exact if_pos rfl

section Entries
variable (b : Fin 8) (c : Fin 32) (r : Fin 64) (o : Fin 2047) (d : Fin 3)

/-- The offset `d - 1` as a word. -/
def offW (d : Fin 3) : BitVec 32 := IntOp.addi 4294967295#32 (BitVec.ofNat 32 d.val)

/-- The number of neighbours on each side, read at an entry. -/
theorem eff_apply (p : IVec S8x32x64x2047 32) : eff p (ix4 b c r o)
    = IntOp.minsi (IntOp.minsi 1#32 (p (ix4 b c r o))) (IntOp.subi 3#32 (p (ix4 b c r o))) := by
  unfold eff
  pointwise

/-- The mask, read at an entry. -/
theorem mask_apply (e : IVec S8x32x64x2047 32) : mask e (ix5 b c r o d)
    = IntOp.cmpi .sle (IntOp.absi (offW d)) (e (ix4 b c r o)) := by
  unfold mask offs offW
  pointwise

/-- The clipped positions, read at an entry. -/
theorem pos_apply (p : IVec S8x32x64x2047 32) : pos p (ix5 b c r o d) = clip (IntOp.addi (p (ix4 b c r o)) (offW d)) := by
  unfold pos offs clip offW
  pointwise

/-- The weight over the offset's size `a` and the number of neighbours `e`. -/
def weightW (a e : BitVec 32) : Elt Ideal .f32 :=
  (1 - FloatOps.sitofp (F := Ideal) .f32 (IntOp.absi a) * Ideal.div 1 (FloatOps.sitofp (F := Ideal) .f32 (IntOp.addi e 1#32)))
    * Ideal.div 1 (FloatOps.sitofp (F := Ideal) .f32 (IntOp.addi e 1#32))

/-- The weights, read at an entry. -/
theorem weight_apply (e : IVec S8x32x64x2047 32) :
    weight (recip e) (ix5 b c r o d) = weightW (offW d) (e (ix4 b c r o)) := by
  unfold weight recip offs weightW offW
  pointwise

/-- The positions the second gather takes, read at an entry. -/
theorem takeIdx_apply (p : IVec S8x32x64x2047 32) (k : Fin 1) :
    takeIdx (pos p) (ix6 b c r o d k) = clip (IntOp.addi (p (ix4 b c r o)) (offW d)) := by
  unfold takeIdx
  pointwise
  rw [pos_apply, wrap_clip]

/-- Every position passes the range test. -/
theorem inRange_apply (p : IVec S8x32x64x2047 32) : inRange (takeIdx (pos p)) (ix5 b c r o d) = 1#1 := by
  unfold inRange
  pointwise
  rw [Finset.fold_congr (g := fun _ => 1#1)]
  · exact fold_one _
  · intro x _
    idx_vars x
    rw [takeIdx_apply, range_clip]

/-- The window's entry at a position, read signed and clamped. -/
def entry (w : FVec Ideal S8x32x64x2047x4 .f32) (q : BitVec 32) : Elt Ideal .f32 :=
  w (ix5 b c r o ⟨min q.toInt.toNat 3, by omega⟩)

/-- The second gather as an entry of the window. -/
theorem gather_entry (w : FVec Ideal S8x32x64x2047x4 .f32) (i : IVec S8x32x64x2047x3x1 32) :
    Host.gather gather_S8x32x64x2047x4_S8x32x64x2047x3x1_S8x32x64x2047x3_n_4_0123_0123_4_5_11111 w i (ix5 b c r o d)
      = entry b c r o w (i (ix6 b c r o d 0)) := by
  unfold entry
  rw [gather_take_apply]

/-- The neighbours' values, read at an entry. -/
theorem vals_apply (w : FVec Ideal S8x32x64x2047x4 .f32) (p : IVec S8x32x64x2047 32) :
    vals w (takeIdx (pos p)) (ix5 b c r o d) = entry b c r o w (clip (IntOp.addi (p (ix4 b c r o)) (offW d))) := by
  unfold vals
  rw [select_of_one _ _ _ _ (inRange_apply b c r o d p), gather_entry, takeIdx_apply]

/-- One term of the weighted sum, over the position `q` of the first maximum. -/
def term (w : FVec Ideal S8x32x64x2047x4 .f32) (q : BitVec 32) : Elt Ideal .f32 :=
  Scalar.select (IntOp.cmpi .sle (IntOp.absi (offW d)) (IntOp.minsi (IntOp.minsi 1#32 q) (IntOp.subi 3#32 q)))
    (weightW (offW d) (IntOp.minsi (IntOp.minsi 1#32 q) (IntOp.subi 3#32 q))
      * entry b c r o w (clip (IntOp.addi q (offW d)))) 0

/-- The sum over the last axis, read at an entry. -/
theorem sum_last (v : FVec Ideal S8x32x64x2047x3 .f32) :
    Host.reduceAdd v (constant (F := Ideal) S_ .f32 0x00000000#32) reducesTo_S8x32x64x2047x3_S8x32x64x2047_d4 h_S_
      (ix4 b c r o) = ∑ d, v (ix5 b c r o d) := by
  pointwise

/-- The masked product, read at an entry. -/
theorem masked_apply (m : IVec S8x32x64x2047x3 1) (x y : FVec Ideal S8x32x64x2047x3 .f32) :
    select m (mulf x y)
      (broadcastInDim S8x32x64x2047x3 ![] bcast_S_S8x32x64x2047x3 (constant (F := Ideal) S_ .f32 0x00000000#32))
      (ix5 b c r o d) = (Scalar.select (m (ix5 b c r o d)) (x (ix5 b c r o d) * y (ix5 b c r o d)) 0 : Elt Ideal .f32) := by
  pointwise

/-- The weighted sum, read at an entry. -/
theorem pooled_apply (w : FVec Ideal S8x32x64x2047x4 .f32) (p : IVec S8x32x64x2047 32) :
    pooled w p (ix4 b c r o) = ∑ d, term b c r o d w (p (ix4 b c r o)) := by
  unfold pooled
  rw [sum_last]
  refine Finset.sum_congr rfl fun d _ => ?_
  unfold term
  rw [masked_apply, vals_apply, mask_apply, weight_apply, eff_apply]
/-- A reciprocal of a nonzero real. -/
theorem div_one (y : ℝ) (hy : y ≠ 0) : Ideal.div 1 ((y : ℝ) : EReal) = ((y⁻¹ : ℝ) : EReal) := by
  unfold Ideal.div
  rw [if_neg (by exact_mod_cast hy), one_mul, EReal.coe_inv]

/-- A weight as a real number. -/
theorem weight_real (a e : BitVec 32) (x y : Int) (hx : (IntOp.absi a).toInt = x) (hy : (IntOp.addi e 1#32).toInt = y)
    (h0 : y ≠ 0) : weightW a e = (((1 - (x : ℝ) * ((y : ℝ))⁻¹) * ((y : ℝ))⁻¹ : ℝ) : EReal) := by
  have e0 : ∀ v : BitVec 32, (FloatOps.sitofp (F := Ideal) .f32 v : EReal) = (((v.toInt : Int) : ℝ) : EReal) := fun _ => rfl
  unfold weightW
  rw [e0, e0, hx, hy, div_one _ (by exact_mod_cast h0)]
  push_cast
  rfl

/-- The weight where no neighbour takes part: one. -/
theorem weight_one : weightW (offW 1) 0#32 = 1 := by
  rw [weight_real _ _ 0 1 (by decide) (by decide) (by decide)]
  norm_num

/-- The centre's weight where neighbours take part: a half. -/
theorem weight_half : weightW (offW 1) 1#32 = Pool.half := by
  rw [weight_real _ _ 0 2 (by decide) (by decide) (by decide)]
  unfold Pool.half
  norm_num

/-- A neighbour's weight: a quarter. -/
theorem weight_quarter (d : Fin 3) (hd : (IntOp.absi (offW d)).toInt = 1) : weightW (offW d) 1#32 = Pool.quarter := by
  rw [weight_real _ _ 1 2 hd (by decide) (by decide)]
  unfold Pool.quarter
  norm_num

/-- A maximum at an end stands alone. -/
theorem sum_end (w : FVec Ideal S8x32x64x2047x4 .f32) (q : BitVec 32) (hq : q = 0#32 ∨ q = 3#32) :
    ∑ d, term b c r o d w q = entry b c r o w q := by
  have hm : IntOp.minsi (IntOp.minsi 1#32 q) (IntOp.subi 3#32 q) = 0#32 := by rcases hq with rfl | rfl <;> decide
  have h0 : IntOp.cmpi .sle (IntOp.absi (offW 0)) 0#32 = 0#1 := by decide
  have h1 : IntOp.cmpi .sle (IntOp.absi (offW 1)) 0#32 = 1#1 := by decide
  have h2 : IntOp.cmpi .sle (IntOp.absi (offW 2)) 0#32 = 0#1 := by decide
  have hc : clip (IntOp.addi q (offW 1)) = q := by rcases hq with rfl | rfl <;> decide
  rw [Fin.sum_univ_three]
  unfold term
  rw [hm, h0, h1, h2, hc, weight_one]
  show (0 : EReal) + 1 * entry b c r o w q + 0 = entry b c r o w q
  rw [zero_add, one_mul, add_zero]

/-- A maximum inside the window takes both neighbours in. -/
theorem sum_inner (w : FVec Ideal S8x32x64x2047x4 .f32) (q : BitVec 32) (hq : q = 1#32 ∨ q = 2#32) :
    ∑ d, term b c r o d w q
      = Pool.quarter * (entry b c r o w (IntOp.subi q 1#32) + entry b c r o w (IntOp.addi q 1#32))
        + Pool.half * entry b c r o w q := by
  have hm : IntOp.minsi (IntOp.minsi 1#32 q) (IntOp.subi 3#32 q) = 1#32 := by rcases hq with rfl | rfl <;> decide
  have h0 : IntOp.cmpi .sle (IntOp.absi (offW 0)) 1#32 = 1#1 := by decide
  have h1 : IntOp.cmpi .sle (IntOp.absi (offW 1)) 1#32 = 1#1 := by decide
  have h2 : IntOp.cmpi .sle (IntOp.absi (offW 2)) 1#32 = 1#1 := by decide
  have c0 : clip (IntOp.addi q (offW 0)) = IntOp.subi q 1#32 := by rcases hq with rfl | rfl <;> decide
  have c1 : clip (IntOp.addi q (offW 1)) = q := by rcases hq with rfl | rfl <;> decide
  have c2 : clip (IntOp.addi q (offW 2)) = IntOp.addi q 1#32 := by rcases hq with rfl | rfl <;> decide
  rw [Fin.sum_univ_three]
  unfold term
  rw [hm, h0, h1, h2, c0, c1, c2, weight_half, weight_quarter 0 (by decide), weight_quarter 2 (by decide)]
  rw [Pool.quarter_mul_add]
  show ((_ : EReal) * _ + _ * _ + _ * _) = _
  exact add_right_comm _ _ _

/-- The weighted sum over a window, the first maximum's position given, is the pooled value. -/
theorem sum_pool (w : FVec Ideal S8x32x64x2047x4 .f32) :
    ∑ d, term b c r o d w (Pool.argOf (w (ix5 b c r o 0)) (w (ix5 b c r o 1)) (w (ix5 b c r o 2)) (w (ix5 b c r o 3)))
      = Pool.pool (w (ix5 b c r o 0)) (w (ix5 b c r o 1)) (w (ix5 b c r o 2)) (w (ix5 b c r o 3)) := by
  have e0 : entry b c r o w 0#32 = w (ix5 b c r o 0) := by unfold entry; congr 2
  have e1 : entry b c r o w 1#32 = w (ix5 b c r o 1) := by unfold entry; congr 2
  have e2 : entry b c r o w 2#32 = w (ix5 b c r o 2) := by unfold entry; congr 2
  have e3 : entry b c r o w 3#32 = w (ix5 b c r o 3) := by unfold entry; congr 2
  have s1 : IntOp.subi 1#32 1#32 = 0#32 := by decide
  have s2 : IntOp.subi 2#32 1#32 = 1#32 := by decide
  have a1 : IntOp.addi 1#32 1#32 = 2#32 := by decide
  have a2 : IntOp.addi 2#32 1#32 = 3#32 := by decide
  unfold Pool.argOf Pool.pool
  split
  · split
    · rw [sum_end _ _ _ _ _ _ (Or.inl rfl), e0]
    · rw [sum_inner _ _ _ _ _ _ (Or.inl rfl), s1, a1, e0, e1, e2]
  · split
    · rw [sum_inner _ _ _ _ _ _ (Or.inr rfl), s2, a2, e1, e2, e3]
    · rw [sum_end _ _ _ _ _ _ (Or.inr rfl), e3]

/-- The reference's result at an entry: the window's four entries of the argument pooled. -/
theorem result_apply (x : FVec Ideal S8x32x64x4096 .f32) :
    result x (ix4 b c r o)
      = Pool.pool (x (ix4 b c r ⟨2 * o.val, by have := o.isLt; omega⟩)) (x (ix4 b c r ⟨2 * o.val + 1, by have := o.isLt; omega⟩))
          (x (ix4 b c r ⟨2 * o.val + 2, by have := o.isLt; omega⟩)) (x (ix4 b c r ⟨2 * o.val + 3, by have := o.isLt; omega⟩)) := by
  unfold result
  rw [pooled_apply, argPos_apply, sum_pool, win_apply, win_apply, win_apply, win_apply]
  rfl

end Entries

end Cert.Ref

end
-- ==== Proof.Value.lean ====
/-
  The kernel's result equals the reference's: the operand of the launch is the argument with its leading axes joined,
  the result is the launch's array with them split again, and a row keeps its place through both.
-/
module

public import proofs.«01_k».proof.Proof.Whole
public import proofs.«01_k».proof.Proof.RefValue
public import Idealize.ShloMosaic.Lib.Claim
public import Idealize.ShloMosaic.Lib.Pointwise

@[expose] public section

set_option maxRecDepth 16384

noncomputable section

namespace Cert.Value

open Idealize.ShloMosaic Idealize.ShloMosaic.TcCoe Idealize.SL.Sem
open Idealize.ShloMosaic.Pipeline (Dat)
open Cert.KernelIdeal Cert.KernelIdeal.Gen Cert.Block

/-- The number of the joined row of image `b`, channel `c`, row `r`. -/
def row (b : Fin 8) (c : Fin 32) (r : Fin 64) : Fin 16384 := ⟨b.val * 2048 + c.val * 64 + r.val, by omega⟩

/-- The argument with its leading axes joined, at an entry. -/
theorem join_apply (x : Vec Ideal S8x32x64x4096 .f32) (b : Fin 8) (c : Fin 32) (r : Fin 64) (q : Fin 4096) :
    shapeCast S16384x4096 x shapeCasts_S8x32x64x4096_S16384x4096 (ix2 (row b c r) q) = x (ix4 b c r q) := by
  unfold row
  pointwise

/-- An array of 16384 rows with its leading axis split, at an entry. -/
theorem split_apply (y : Vec Ideal S16384x2047 .f32) (b : Fin 8) (c : Fin 32) (r : Fin 64) (o : Fin 2047) :
    shapeCast S8x32x64x2047 y shapeCasts_S16384x2047_S8x32x64x2047 (ix4 b c r o) = y (ix2 (row b c r) o) := by
  unfold row
  pointwise

/-- A joined row's entry at a column's number. -/
theorem col_join (x : Vec Ideal S8x32x64x4096 .f32) (b : Fin 8) (c : Fin 32) (r : Fin 64) {k : Nat} (hk : k < 4096) :
    col (shapeCast S16384x4096 x shapeCasts_S8x32x64x4096_S16384x4096) (row b c r) k = x (ix4 b c r ⟨k, hk⟩) := by
  unfold col
  rw [dif_pos hk]
  exact join_apply x b c r ⟨k, hk⟩

variable (m : (ℓ : Loc nD τ sig) → Buf (Elt Ideal) ℓ)

/-- The launch's operand is the argument with its leading axes joined. -/
theorem operand (c : Dev nD) : V m c main_v0
    = shapeCast S16384x4096 (m ((c : Thread nD τ).loc main_arg0)) shapeCasts_S8x32x64x4096_S16384x4096 := by
  rfl

/-- The result is the launch's array with its leading axis split. -/
theorem tail (c : Dev nD) : Pipeline.afterTail₀ cfgs (dats m) 0 (V0 m) [hostOps1] c main_v2
    = shapeCast S8x32x64x2047 ((dats m 0 c).arrAt 1 (cfgs 0).N) shapeCasts_S16384x2047_S8x32x64x2047 := by
  unfold Pipeline.afterTail₀
  rw [← Pipeline.withArrays_arr spec0 launch0.win.arr_inj c (V0 m c) (fun w => (dats m 0 c).arrAt w (cfgs 0).N) 1]
  rfl

/-- An entry of the kernel's result is the reference's. -/
theorem result_entry (x : Vec Ideal S8x32x64x4096 .f32) (b : Fin 8) (c : Fin 32) (r : Fin 64) (o : Fin 2047) :
    Ref.result x (ix4 b c r o) = shapeCast S8x32x64x2047
      (pooled (n := 16384) (shapeCast S16384x4096 x shapeCasts_S8x32x64x4096_S16384x4096))
      shapeCasts_S16384x2047_S8x32x64x2047 (ix4 b c r o) := by
  refine (Ref.result_apply b c r o x).trans ((split_apply _ b c r o).trans ?_).symm
  show window _ (row b c r) o.val = _
  unfold window
  rw [col_join _ _ _ _ (by omega), col_join _ _ _ _ (by omega), col_join _ _ _ _ (by omega), col_join _ _ _ _ (by omega)]

/-- So the two results are equal. -/
theorem result_eq (x : Vec Ideal S8x32x64x4096 .f32) :
    Ref.result x = shapeCast S8x32x64x2047
      (pooled (n := 16384) (shapeCast S16384x4096 x shapeCasts_S8x32x64x4096_S16384x4096))
      shapeCasts_S16384x2047_S8x32x64x2047 := by
  funext j
  have hj : j = ix4 (n0 := 8) (n1 := 32) (n2 := 64) (n3 := 2047) (j 0) (j 1) (j 2) (j 3) := by
    funext a
    match a with
    | ⟨0, _⟩ => rfl
    | ⟨1, _⟩ => rfl
    | ⟨2, _⟩ => rfl
    | ⟨3, _⟩ => rfl
  rw [hj]
  exact result_entry x (j 0) (j 1) (j 2) (j 3)

/-- What the kernel leaves in its result is the reference's result of its argument. -/
theorem kernel_result (c : Dev nD) : Pipeline.afterTail₀ cfgs (dats m) 0 (V0 m) [hostOps1] c main_v2
    = Ref.result (m ((c : Thread nD τ).loc main_arg0)) := by
  rw [tail, Whole.final, operand]
  exact (result_eq _).symm

/-- The kernel terminates, with its result at the reference's result of its argument and its argument unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v2) = Ref.result (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (kernel_result m c),
      ((h c).2 main_arg0 (Pipeline.mem_restRefs_of main_arg0 (by decide) (by decide))).trans (W_main_arg0 m (dats m) c)⟩)
    (run_main m g)

end Cert.Value

end
-- ==== Proof.lean ====
/- The certificate's claims, assembled: the kernel's frames are generated, the reference's is its run read at the
   argument, and the results agree by `Cert.Value.run` and `Cert.Ref.run`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Value
public import Idealize.ShloMosaic.Lib.Quiescent

@[expose] public section

noncomputable section

namespace Cert.Proof

open Idealize.ShloMosaic Idealize.SL.Sem Cert.Kernel

/-- The certificate. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, fun m ρ _ => ?_, trivial, ?_⟩
  · -- the reference runs on the host and declares no semaphore
    exact (θ_run Cert.ReferenceIdeal.defs _ _).mono
      (fun r h => ⟨fun c => (h c).2, sem_eq_zero_of_no_sems (by decide) r.2⟩) (Cert.Ref.run m ρ)
  · -- from equal arguments both results are the reference's term
    intro m g m' g' _ hagree
    refine ⟨fun c => Cert.Ref.result (m ((c.tc : Thread Cert.KernelIdeal.nD Cert.KernelIdeal.τ).loc Cert.KernelIdeal.main_arg0)), ?_, ?_⟩
    · exact Cert.Value.run m g
    · exact (θ_run Cert.ReferenceIdeal.defs _ _).mono
        (fun r h c => ⟨(h c).1.trans (congrArg Cert.Ref.result (hagree c)), (h c).2⟩) (Cert.Ref.run m' g')⟩

end Cert.Proof

end
